-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_ShiftedIdeal (m : (ℓ : Loc Cert.ShiftedIdeal.nD Cert.ShiftedIdeal.τ Cert.ShiftedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ShiftedIdeal [hShiftedIdeal : Cert.ShiftedIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ShiftedIdeal [hKernelIdeal : Cert.KernelIdeal.Facts] [hShiftedIdeal : Cert.ShiftedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShiftedIdeal.nD Cert.ShiftedIdeal.τ Cert.ShiftedIdeal.sig) → Buf (Elt Ideal) ℓ) (g' : Dev Cert.ShiftedIdeal.nD → PrngReg), Pre_KernelIdeal m →
    (∀ c : Dev Cert.KernelIdeal.nD,
      m' ((c.tc : Thread Cert.ShiftedIdeal.nD Cert.ShiftedIdeal.τ).loc Cert.ShiftedIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ShiftedIdeal.defs (F := Ideal)) (onTc (τ := Cert.ShiftedIdeal.τ) (Cert.ShiftedIdeal.main (F := Ideal))) ⟨m', fun _ => 0, g'⟩ (fun r => ∀ c : Dev Cert.ShiftedIdeal.nD,
          r.2.mem ((c.tc : Thread Cert.ShiftedIdeal.nD Cert.ShiftedIdeal.τ).loc Cert.ShiftedIdeal.main_v2) = v0 c
          ∧ r.2.mem ((c.tc : Thread Cert.ShiftedIdeal.nD Cert.ShiftedIdeal.τ).loc Cert.ShiftedIdeal.main_arg0) = m' ((c.tc : Thread Cert.ShiftedIdeal.nD Cert.ShiftedIdeal.τ).loc Cert.ShiftedIdeal.main_arg0))

def Claim : Prop :=
  ∃ (hKernel : Cert.Kernel.Facts) (hKernelIdeal : Cert.KernelIdeal.Facts) (hReferenceIdeal : Cert.ReferenceIdeal.Facts) (hShiftedIdeal : Cert.ShiftedIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ShiftedIdeal (hShiftedIdeal := hShiftedIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ShiftedIdeal (hKernelIdeal := hKernelIdeal) (hShiftedIdeal := hShiftedIdeal)
-- ==== Pre_finite.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)

variable [Facts]

def fn {F : FTy → Type} [FloatOps F] (main_arg0 : FVec F S4096x8192 .f32) : IVec S4096x8192 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  main_v2
-- ==== Kernel.lean ====
abbrev S4096x8192 : Shape := ⟨2, ![4096, 8192]⟩
abbrev S256x256 : Shape := ⟨2, ![256, 256]⟩
abbrev S4096x256 : Shape := ⟨2, ![4096, 256]⟩
abbrev S4096x1 : Shape := ⟨2, ![4096, 1]⟩
abbrev S4096 : Shape := ⟨1, ![4096]⟩

abbrev nBuf : Space → Nat
  | .hbm => 6
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .f32⟩
  | .hbm, ⟨5, _⟩ => ⟨S4096x8192, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | .local _ .vmem, ⟨5, _⟩ => ⟨S4096x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x8192 : Shape := ⟨2, ![4096, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | .hbm, ⟨4, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ShiftedIdeal.lean ====
abbrev S4096x8192 : Shape := ⟨2, ![4096, 8192]⟩
abbrev S_ : Shape := ⟨0, ![]⟩
abbrev S4096x8191 : Shape := ⟨2, ![4096, 8191]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | .hbm, ⟨4, _⟩ => ⟨S4096x8191, .f32⟩
  | .hbm, ⟨5, _⟩ => ⟨S_, .i32⟩
  | .hbm, ⟨6, _⟩ => ⟨S_, .f32⟩
  | .hbm, ⟨7, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call1_v0 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Cases.lean ====
/-
  WHAT ONE GRID POINT STORES, in its two cases, as the kernel's own pure terms (`k0_pay1`, `k0_pay2`, `k0_pay3`) over what
  the point loads: the block of the input, the triangular matrix and the carried column. At the first point the column is
  first set to zero (`k0_pay1`) and loaded back; at every other point it is what the point before left. Both hold for any
  kind of floating point numbers.
-/
module

public import proofs.«01_k».proof.Proof.Gen.KernelIdeal.Frame
public import Idealize.ShloMosaic.Lib.Pipeline.Value

@[expose] public section

set_option maxRecDepth 16384

noncomputable section

namespace Cert.KernelIdeal.Scan

open Cert.KernelIdeal Cert.KernelIdeal.Gen Idealize.ShloMosaic Idealize.ShloMosaic.TcCoe
open Idealize.ShloMosaic.Tactic

variable {F : FTy → Type} [FloatOps F]

/-- A rectangle that starts at the origin of both axes. -/
theorem origin : (![0, 0] : Fin 2 → Nat) = fun _ => 0 := funext fun a => by fin_cases a <;> rfl

variable (c : Dev nD) (i : grid0.Coords)
  (blk : Memref sig .tc .vmem S4096x256 .f32) (hblk : blk.IsWhole)
  (tri : Memref sig .tc .vmem S256x256 .f32) (htri : tri.IsWhole)
  (res : Memref sig .tc .vmem S4096x256 .f32) (hres : res.IsWhole)
  (col : Memref sig .tc .vmem S4096x1 .f32) (hcol : col.IsWhole)
  (x0 : Vec F S4096x256 .f32) (x1 : Vec F S256x256 .f32) (xs0 : Vec F S4096x1 .f32)

/-- The result block of the first point: computed over the zero column. -/
theorem out_first (hc0 : cond0_0 i) :
    out0_A_2 c i blk hblk tri htri res hres col hcol hc0 x0 x1 = k0_pay2 x0 x1 (k0_pay1 (F := F)) := by
  unfold out0_A_2
  rw [View.read_writes_eq_canon _ _ _ (cover0_A_2 c i blk hblk tri htri res hres col hcol hc0 x0 x1)]
  unfold kernelRun0_A
  dsimp only
  sl_unfold_words
  rw [View.canon_unit_zero origin]
  simp only [View.readAt_eq_ld, hblk.read_unread, htri.read_unread, View.ld_unit_zero (S := S4096x256) origin,
    View.ld_unit_zero (S := S256x256) origin, View.readCov_unit_zero (S := S4096x1) _ origin]

/-- The column the first point leaves: the zero column advanced by the block. -/
theorem carry_first (hc0 : cond0_0 i) :
    sout0_A_0 c i blk hblk tri htri res hres col hcol hc0 x0 x1 = k0_pay3 x0 (k0_pay1 (F := F)) := by
  unfold sout0_A_0
  rw [View.read_writes_eq_canon _ _ _ (scover0_A_0 c i blk hblk tri htri res hres col hcol hc0 x0 x1)]
  unfold kernelRun0_A
  dsimp only
  sl_unfold_words
  rw [View.canon_cons_unit_zero (S := S4096x1) origin]
  simp only [View.readAt_eq_ld, hblk.read_unread, View.ld_unit_zero (S := S4096x256) origin,
    View.readCov_unit_zero (S := S4096x1) _ origin]

/-- The result block of a later point: computed over the column the point before left. -/
theorem out_later (hc0 : ¬cond0_0 i) :
    out0_B_2 c i blk hblk tri htri res hres col hcol hc0 x0 x1 xs0 = k0_pay2 x0 x1 xs0 := by
  unfold out0_B_2
  rw [View.read_writes_eq_canon _ _ _ (cover0_B_2 c i blk hblk tri htri res hres col hcol hc0 x0 x1 xs0)]
  unfold kernelRun0_B
  dsimp only
  sl_unfold_words
  rw [View.canon_unit_zero origin]
  simp only [View.readAt_eq_ld, hblk.read_unread, htri.read_unread, hcol.read_unread,
    View.ld_unit_zero (S := S4096x256) origin, View.ld_unit_zero (S := S256x256) origin,
    View.ld_unit_zero (S := S4096x1) origin]

/-- The column a later point leaves: the column before it advanced by the block. -/
theorem carry_later (hc0 : ¬cond0_0 i) :
    sout0_B_0 c i blk hblk tri htri res hres col hcol hc0 x0 x1 xs0 = k0_pay3 x0 xs0 := by
  unfold sout0_B_0
  rw [View.read_writes_eq_canon _ _ _ (scover0_B_0 c i blk hblk tri htri res hres col hcol hc0 x0 x1 xs0)]
  unfold kernelRun0_B
  dsimp only
  sl_unfold_words
  rw [View.canon_unit_zero origin]
  simp only [View.readAt_eq_ld, hblk.read_unread, hcol.read_unread,
    View.ld_unit_zero (S := S4096x256) origin, View.ld_unit_zero (S := S4096x1) origin]

end Cert.KernelIdeal.Scan

end
-- ==== Proof.Prefix.lean ====
/-
  SUMS OF A ROW'S FIRST ENTRIES, over the extended reals: the one quantity this proof is about.

  `before x r p` is the sum of the entries of row `r` of a matrix `x` that stand before column `p`. The kernel and both
  references are each shown to hold it: here are the three facts about it that they need. It starts at zero and grows by
  one entry per column (`before_zero`, `before_succ`); it splits at any column (`before_add`); and a row times a column of
  the strictly upper triangular matrix of ones is the sum of the entries before that column (`sum_triangle`). No entry
  need be finite for any of them: addition of extended reals is commutative and associative, and zero times infinity is
  zero there. Only `before_succ_sub`, which takes the last entry off again, asks that entry to be finite.
-/
module

public import Idealize.ShloMosaic.Lib.ValueIdxCore
public import Mathlib.Data.EReal.Operations
public import Mathlib.Algebra.BigOperators.Intervals

@[expose] public section

noncomputable section

namespace Cert.RunningSum

open Idealize.ShloMosaic Idealize.ShloMosaic.ValueIdx
open scoped BigOperators

variable {R N : ℕ}

/-- Entry `k` of row `r`, and zero past the row's end. -/
def entry (x : (⟨2, ![R, N]⟩ : Shape).Idx → EReal) (r : Fin R) (k : ℕ) : EReal :=
  if h : k < N then x (ix2 r ⟨k, h⟩) else 0

/-- The sum of row `r`'s entries before column `p`. -/
def before (x : (⟨2, ![R, N]⟩ : Shape).Idx → EReal) (r : Fin R) (p : ℕ) : EReal :=
  ∑ k ∈ Finset.range p, entry x r k

/-- Inside the row `entry` is the matrix's own entry. -/
theorem entry_of_lt (x : (⟨2, ![R, N]⟩ : Shape).Idx → EReal) (r : Fin R) {k : ℕ} (h : k < N) :
    entry x r k = x (ix2 r ⟨k, h⟩) := dif_pos h

/-- Nothing stands before the first column. -/
theorem before_zero (x : (⟨2, ![R, N]⟩ : Shape).Idx → EReal) (r : Fin R) : before x r 0 = 0 := rfl

/-- One column further on, one entry more. -/
theorem before_succ (x : (⟨2, ![R, N]⟩ : Shape).Idx → EReal) (r : Fin R) (p : ℕ) :
    before x r (p + 1) = before x r p + entry x r p := Finset.sum_range_succ _ _

/-- The sum split at column `p`: what stands before it, and the next `q` entries. -/
theorem before_add (x : (⟨2, ![R, N]⟩ : Shape).Idx → EReal) (r : Fin R) (p q : ℕ) :
    before x r (p + q) = before x r p + ∑ k ∈ Finset.range q, entry x r (p + k) := by
  induction q with
  | zero => rw [Nat.add_zero, Finset.range_zero, Finset.sum_empty, add_zero]
  | succ q ih => rw [← Nat.add_assoc, before_succ, ih, Finset.sum_range_succ, add_assoc]

/-- Taking a finite entry off the sum that ends with it leaves the sum before it. -/
theorem before_succ_sub (x : (⟨2, ![R, N]⟩ : Shape).Idx → EReal) (r : Fin R) (p : ℕ)
    (hbot : entry x r p ≠ ⊥) (htop : entry x r p ≠ ⊤) : before x r (p + 1) - entry x r p = before x r p := by
  rw [before_succ, sub_eq_add_neg, add_assoc, ← sub_eq_add_neg, EReal.sub_self htop hbot, add_zero]

/-- A row of `n` entries against column `q` of the strictly upper triangular matrix of ones: the entries before `q`. -/
theorem sum_triangle {n : ℕ} (f : ℕ → EReal) (q : ℕ) (hq : q ≤ n) :
    ∑ k : Fin n, f k.val * (if k.val < q then 1 else 0) = ∑ k ∈ Finset.range q, f k := by
  rw [Fin.sum_univ_eq_sum_range (fun k => f k * (if k < q then 1 else 0)) n]
  simp only [mul_ite, mul_one, mul_zero]
  rw [← Finset.sum_filter]
  refine Finset.sum_congr (Finset.ext fun k => ?_) fun _ _ => rfl
  simp only [Finset.mem_filter, Finset.mem_range]
  omega

end Cert.RunningSum

end
-- ==== Proof.Tile.lean ====
/-
  ONE GRID POINT'S ARITHMETIC over the extended reals, element by element. The stored result is the block times the matrix
  plus the carried column (`out_apply`); the column is advanced by the row sums of the block (`carry_apply`), from zero
  (`start_apply`). The matrix the host builds is the strictly upper triangular matrix of ones (`triangle_apply`).
-/
module

public import proofs.«01_k».proof.Proof.Gen.KernelIdeal.Skeleton
public import Idealize.ShloMosaic.Lib.MatmulPlain
public import Idealize.ShloMosaic.Lib.ValueIdx
public import Idealize.ShloMosaic.Lib.ValueLayoutCasts
public import Idealize.ShloMosaic.Lib.Pipeline.Value

@[expose] public section

set_option maxRecDepth 16384

noncomputable section

namespace Cert.KernelIdeal.Scan

open Cert.KernelIdeal Cert.KernelIdeal.Gen Idealize.ShloMosaic Idealize.ShloMosaic.ValueIdx
open scoped BigOperators

/-- The all-zero bit pattern is the number zero. -/
theorem zero_bits : Ideal.ofBits .f32 0x00000000#32 = 0 := by simp [Ideal.ofBits, Ideal.ieee]

/-- The starting column is zero. -/
theorem start_apply (r : Fin 4096) (u : Fin 1) : (k0_pay1 : FVec Ideal S4096x1 .f32) (ix2 r u) = 0 := by
  unfold k0_pay1
  rw [shapeCast_self]
  exact zero_bits

/-- Element `(r, q)` of the stored block: row `r` of the block against column `q` of the matrix, plus the carried entry. -/
theorem out_apply (x : FVec Ideal S4096x256 .f32) (w : FVec Ideal S256x256 .f32) (s : FVec Ideal S4096x1 .f32)
    (r : Fin 4096) (q : Fin 256) :
    k0_pay2 x w s (ix2 r q) = (∑ k : Fin 256, x (ix2 r k) * w (ix2 k q)) + s (ix2 r 0) := by
  unfold k0_pay2
  rw [shapeCast_self, addf_apply]
  refine congrArg₂ (· + ·) ?_ ?_
  · refine (Ideal.matmul_plain_apply (M := 4096) (K := 256) (N := 256) none x w _ r q).trans ?_
    rw [constant_apply, zero_bits, zero_add]
  · refine broadcastTo_apply s _ (ix2 r q) (ix2 r 0) fun a => ?_
    match a with
    | ⟨0, _⟩ => rfl
    | ⟨1, _⟩ => rfl

/-- Entry `r` of the advanced column: the carried entry plus the sum of the block's row `r`. -/
theorem carry_apply (x : FVec Ideal S4096x256 .f32) (s : FVec Ideal S4096x1 .f32) (r : Fin 4096) :
    k0_pay3 x s (ix2 r 0) = s (ix2 r 0) + ∑ k : Fin 256, x (ix2 r k) := by
  unfold k0_pay3
  rw [shapeCast_self, addf_apply]
  refine congrArg (s (ix2 r 0) + ·) ?_
  refine (shapeCast_a_a1_apply (a := 4096) _ _ r 0).trans ?_
  refine (Ideal.multiReduction_add_single (a := (1 : Fin S4096x256.rank)) x _ reduces_S4096x256_S4096 _ _ (ix1 r)).trans ?_
  refine Finset.sum_congr rfl fun k _ => congrArg x (funext fun a => Fin.ext ?_)
  match a with
  | ⟨0, _⟩ => rfl
  | ⟨1, _⟩ => rfl

/-- A row or column number of the matrix, as a signed 32-bit word, is that number. -/
theorem counter_val (k : Fin 256) : (BitVec.ofNat 32 k.val).toInt = (k.val : ℤ) := by
  have hk := k.isLt
  have e : (BitVec.ofNat 32 k.val).toNat = k.val := by rw [BitVec.toNat_ofNat]; omega
  rw [BitVec.toInt_eq_toNat_cond, e, if_pos (by omega)]

/-- The matrix the host builds, from the row and column numbers. -/
abbrev triangle : FVec Ideal S256x256 .f32 :=
  uitofp .f32 (cmpi .slt (iotaInDim S256x256 32 0) (iotaInDim S256x256 32 1))

/-- The matrix the host builds holds one where the row number is less than the column number, zero elsewhere. -/
theorem triangle_apply (k q : Fin 256) :
    triangle (ix2 k q) = if k.val < q.val then 1 else 0 := by
  show (((BitVec.ofBool (decide ((BitVec.ofNat 32 k.val).toInt < (BitVec.ofNat 32 q.val).toInt))).toNat : ℝ) : EReal) = _
  have hk := counter_val k
  have hq := counter_val q
  rw [hk, hq]
  by_cases h : k.val < q.val
  · rw [if_pos h, decide_eq_true (by omega)]; simp
  · rw [if_neg h, decide_eq_false (by omega)]; simp

end Cert.KernelIdeal.Scan

end
-- ==== Proof.Blocks.lean ====
/-
  WHAT A GRID POINT LOADS. Point `t` loads columns `256 t … 256 t + 255` of the input (`block_apply`) and the whole matrix
  the host built before the launch (`matrix_apply`).
-/
module

public import proofs.«01_k».proof.Proof.Prefix
public import proofs.«01_k».proof.Proof.Tile
public import proofs.«01_k».proof.Proof.Gen.KernelIdeal.Frame
public import Idealize.ShloMosaic.Lib.StableHlo.Run

@[expose] public section

set_option maxRecDepth 16384

noncomputable section

namespace Cert.KernelIdeal.Scan

open Cert.KernelIdeal Cert.KernelIdeal.Gen Idealize.ShloMosaic Idealize.ShloMosaic.TcCoe Idealize.ShloMosaic.ValueIdx
open Cert.RunningSum

variable (m : (ℓ : Loc nD τ sig) → Buf (Elt Ideal) ℓ) (c : Dev nD)

/-- The kernel's input on one device, as a matrix of extended reals. -/
abbrev input : (⟨2, ![4096, 8192]⟩ : Shape).Idx → EReal := m ((c : Thread nD τ).loc main_arg0)

/-- The input's block index at point `t` is `(0, t)`. -/
theorem input_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The matrix's block index is `(0, 0)` at every point. -/
theorem matrix_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Element `(r, k)` of the block point `t` loads is entry `256 t + k` of the input's row `r`. -/
theorem block_apply (t : Fin cfg0.N) (r : Fin 4096) (k : Fin 256) :
    (iblk m c 0 t : FVec Ideal S4096x256 .f32) (ix2 r k) = entry (input m c) r (t.val * 256 + k.val) := by
  have ht : t.val < 32 := lt_of_lt_of_eq t.isLt (show cfg0.N = 32 from N_0)
  have hk := k.isLt
  obtain ⟨e0, e1⟩ := input_index t
  rw [entry_of_lt _ _ (show t.val * 256 + k.val < 8192 by omega)]
  unfold iblk
  rw [View.read_apply]
  refine (congrFun (V_main_arg0 m c) _).trans ?_
  refine congrArg (m ((c : Thread nD τ).loc main_arg0)) (funext fun a => Fin.ext ?_)
  match a with
  | ⟨0, _⟩ => show win0_0.index t (0 : Fin 2) * 4096 + 1 * r.val = r.val; omega
  | ⟨1, _⟩ => show win0_0.index t (1 : Fin 2) * 256 + 1 * k.val = t.val * 256 + k.val; omega

/-- The matrix buffer at the launch: the comparison of the two counters, as numbers. -/
theorem matrix_built : V m c main_v3 = triangle := by
  unfold V hostOps0
  after_results

/-- Element `(k, q)` of the matrix any point loads: one where `k < q`, zero elsewhere. -/
theorem matrix_apply (t : Fin cfg0.N) (k q : Fin 256) :
    (iblk m c 1 t : FVec Ideal S256x256 .f32) (ix2 k q) = (if k.val < q.val then 1 else 0 : EReal) := by
  obtain ⟨e0, e1⟩ := matrix_index t
  refine Eq.trans ?_ (triangle_apply k q)
  unfold iblk
  rw [View.read_apply]
  refine (congrFun (matrix_built m c) _).trans ?_
  refine congrArg triangle (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

end Cert.KernelIdeal.Scan

end
-- ==== Proof.Scan.lean ====
/-
  THE SCAN OVER THE GRID. By induction over the points: the column point `n` leaves holds each row's sum of the first
  `256 (n + 1)` entries (`carry_after`), so the block it stores holds at `(r, q)` the sum of row `r` before column
  `256 n + q` (`out_after`). Read through the blocks, the whole result array holds at `(r, p)` the sum of row `r` before
  column `p` (`result_apply`), whatever the entries are.
-/
module

public import proofs.«01_k».proof.Proof.Cases
public import proofs.«01_k».proof.Proof.Blocks
public import proofs.«01_k».proof.Proof.Gen.KernelIdeal.Value

@[expose] public section

set_option maxRecDepth 16384

noncomputable section

namespace Cert.KernelIdeal.Scan

open Cert.KernelIdeal Cert.KernelIdeal.Gen Idealize.ShloMosaic Idealize.ShloMosaic.TcCoe Idealize.ShloMosaic.ValueIdx
open Cert.RunningSum
open scoped BigOperators

variable (m : (ℓ : Loc nD τ sig) → Buf (Elt Ideal) ℓ) (c : Dev nD)

/-- If the column holds the sums before a point's block, the block the point stores holds the sums before its columns. -/
theorem out_step (t : Fin cfg0.N) (s : FVec Ideal S4096x1 .f32) (r : Fin 4096) (q : Fin 256)
    (hs : s (ix2 r 0) = before (input m c) r (t.val * 256)) :
    k0_pay2 (iblk m c 0 t) (iblk m c 1 t) s (ix2 r q) = before (input m c) r (t.val * 256 + q.val) := by
  refine (out_apply (iblk m c 0 t) (iblk m c 1 t) s r q).trans ?_
  rw [hs, before_add, add_comm, ← sum_triangle (fun k => entry (input m c) r (t.val * 256 + k)) q.val q.isLt.le]
  exact congrArg (before (input m c) r (t.val * 256) + ·) (Finset.sum_congr rfl fun k _ =>
    congrArg₂ (· * ·) (block_apply m c t r k) (matrix_apply m c t k q))

/-- If the column holds the sums before a point's block, the column the point leaves holds the sums before the next one. -/
theorem carry_step (t : Fin cfg0.N) (s : FVec Ideal S4096x1 .f32) (r : Fin 4096)
    (hs : s (ix2 r 0) = before (input m c) r (t.val * 256)) :
    k0_pay3 (iblk m c 0 t) s (ix2 r 0) = before (input m c) r ((t.val + 1) * 256) := by
  refine (carry_apply (iblk m c 0 t) s r).trans ?_
  rw [hs, Nat.add_mul, Nat.one_mul, before_add,
    ← Fin.sum_univ_eq_sum_range (fun k => entry (input m c) r (t.val * 256 + k)) 256]
  exact congrArg (before (input m c) r (t.val * 256) + ·) (Finset.sum_congr rfl fun k _ => block_apply m c t r k)

/-- The zero column holds the sums before the first block. -/
theorem start_before (t : Fin cfg0.N) (h0 : t.val = 0) (r : Fin 4096) :
    (k0_pay1 : FVec Ideal S4096x1 .f32) (ix2 r 0) = before (input m c) r (t.val * 256) := by
  rw [start_apply, h0, Nat.zero_mul, before_zero]

/-- After point `n` the column holds each row's sum of its first `256 (n + 1)` entries. -/
theorem carry_after (r : Fin 4096) : ∀ (n : ℕ) (hn : n < cfg0.N),
    (outsAt0 m c n hn).2 (ix2 r 0) = before (input m c) r ((n + 1) * 256)
  | 0, hn => by
    rw [outsAt0_A m c ⟨0, hn⟩ (Nat.zero_mod _)]
    dsimp only
    rw [carry_first]
    exact carry_step m c ⟨0, hn⟩ _ r (start_before m c ⟨0, hn⟩ rfl r)
  | n + 1, hn => by
    have hN : n + 1 < 32 := lt_of_lt_of_eq hn (show cfg0.N = 32 from N_0)
    rw [outsAt0_B m c ⟨n + 1, hn⟩ (by dsimp only; omega)]
    dsimp only
    rw [carry_later]
    exact carry_step m c ⟨n + 1, hn⟩ _ r (carry_after r n (Nat.lt_of_succ_lt hn))

/-- The block point `n` stores holds at `(r, q)` the sum of row `r` before column `256 n + q`. -/
theorem out_after (r : Fin 4096) (q : Fin 256) : ∀ (n : ℕ) (hn : n < cfg0.N),
    (outsAt0 m c n hn).1 (ix2 r q) = before (input m c) r (n * 256 + q.val)
  | 0, hn => by
    rw [outsAt0_A m c ⟨0, hn⟩ (Nat.zero_mod _)]
    dsimp only
    rw [out_first]
    exact out_step m c ⟨0, hn⟩ _ r q (start_before m c ⟨0, hn⟩ rfl r)
  | n + 1, hn => by
    have hN : n + 1 < 32 := lt_of_lt_of_eq hn (show cfg0.N = 32 from N_0)
    rw [outsAt0_B m c ⟨n + 1, hn⟩ (by dsimp only; omega)]
    dsimp only
    rw [out_later]
    exact out_step m c ⟨n + 1, hn⟩ _ r q (carry_after m c r n (Nat.lt_of_succ_lt hn))

/-- The kernel's result holds at `(r, p)` the sum of row `r` before column `p`. -/
theorem result_apply (r : Fin 4096) (p : Fin 8192) :
    (Value.G2 m c : FVec Ideal S4096x8192 .f32) (ix2 r p) = before (input m c) r p.val := by
  have hr := r.isLt
  have hp := p.isLt
  have hpt : Value.pt2Of (ix2 r p : S4096x8192.Idx) = p.val / 256 := by
    show 32 * (r.val / 4096 - 0) + 1 * (p.val / 256 - 0) = p.val / 256
    omega
  have hloc : Value.loc2Of (ix2 r p : S4096x8192.Idx) = ix2 r ⟨p.val % 256, Nat.mod_lt _ (by decide)⟩ :=
    funext fun a => Fin.ext (match a with
      | ⟨0, _⟩ => Nat.mod_eq_of_lt hr
      | ⟨1, _⟩ => rfl)
  have hlt : p.val / 256 < cfg0.N := lt_of_lt_of_eq (by omega) (show cfg0.N = 32 from N_0).symm
  unfold Value.G2
  rw [dif_pos (show Value.pt2Of (ix2 r p : S4096x8192.Idx) < cfg0.N from hpt ▸ hlt), hloc,
    Value.fold0_congr m c _ _ (p.val / 256) (by omega) hpt, ← Value.outsAt0_sweep m c (p.val / 256) hlt,
    out_after, Nat.div_add_mod']

end Cert.KernelIdeal.Scan

end
-- ==== Proof.Window.lean ====
/-
  WHAT THE HOST'S RUNNING SUM HOLDS: `jnp.cumsum` of a matrix along its rows lowers to a window sum, each window as long
  as the row and padded in front, so that the window of column `p` ends at `p`. Over the extended reals its element
  `(r, p)` is the sum of row `r`'s entries up to and including column `p` (`cumsum_apply`).
-/
module

public import proofs.«01_k».proof.Proof.Prefix
public import Idealize.ShloMosaic.PureOps.Ideal

@[expose] public section

noncomputable section

namespace Cert.RunningSum

open Idealize.ShloMosaic Idealize.ShloMosaic.ValueIdx
open scoped BigOperators

/-- Adding a list's terms one after the other onto a start is the start plus their sum. -/
theorem foldl_add_map {α : Type} (g : α → EReal) (l : List α) (a : EReal) :
    l.foldl (fun acc n => acc + g n) a = a + (l.map g).sum := by
  induction l generalizing a with
  | nil => simp
  | cons b l ih => rw [List.foldl_cons, ih, List.map_cons, List.sum_cons, add_assoc]

/-- The same over the positions of a window, counted in row-major order: the start plus the sum over the window. -/
theorem foldl_window (W : Shape) (g : W.Idx → EReal) (a : EReal) :
    (List.finRange W.numel).foldl (fun acc n => acc + g (W.rowMajor.symm n)) a = a + ∑ w : W.Idx, g w := by
  rw [foldl_add_map (fun n => g (W.rowMajor.symm n)), ← Equiv.sum_comp W.rowMajor.symm g, ← List.ofFn_eq_map,
    List.sum_ofFn]

variable {R N M : ℕ}

/-- The running sum along the rows: element `(r, p)` is the sum of row `r` up to and including column `p`. -/
theorem cumsum_apply (hN : M + 1 = N) (x : (⟨2, ![R, N]⟩ : Shape).Idx → EReal)
    (h : (⟨2, ![R, N]⟩ : Shape).ReduceWindows (![1, N] : Fin 2 → Nat) ![1, 1] ![0, M] ![0, 0] ⟨2, ![R, N]⟩)
    (r : Fin R) (p : Fin N) :
    Ideal.hostReduceWindowAdd ![1, N] ![1, 1] ![0, M] ![0, 0] h x 0 (ix2 r p) = before x r (p.val + 1) := by
  subst hN
  have hp := p.isLt
  -- the padded row read at a window position
  let g : (⟨2, ![1, M + 1]⟩ : Shape).Idx → EReal := fun w =>
    if M ≤ p.val + (w 1).val then entry x r (p.val + (w 1).val - M) else 0
  have key : ∀ w : (⟨2, ![1, M + 1]⟩ : Shape).Idx,
      (if hin : ∀ a : Fin 2, (![0, M] : Fin 2 → Nat) a
            ≤ ((ix2 r p : (⟨2, ![R, M + 1]⟩ : Shape).Idx) a).val * (![1, 1] : Fin 2 → Nat) a + (w a).val
          ∧ ((ix2 r p : (⟨2, ![R, M + 1]⟩ : Shape).Idx) a).val * (![1, 1] : Fin 2 → Nat) a + (w a).val
            - (![0, M] : Fin 2 → Nat) a < (![R, M + 1] : Fin 2 → Nat) a then
        x (fun a => ⟨_, (hin a).2⟩) else 0) = g w := by
    intro w
    have hw0 : (w 0).val < 1 := (w 0).isLt
    have hw1 : (w 1).val < M + 1 := (w 1).isLt
    have hr := r.isLt
    split
    · next hin =>
      have h1 : M ≤ p.val * 1 + (w 1).val ∧ p.val * 1 + (w 1).val - M < M + 1 := hin 1
      show _ = if M ≤ p.val + (w 1).val then entry x r (p.val + (w 1).val - M) else 0
      rw [if_pos (by omega), entry_of_lt x r (by omega)]
      refine congrArg x (funext fun a => Fin.ext ?_)
      match a with
      | ⟨0, _⟩ => show r.val * 1 + (w 0).val - 0 = r.val; omega
      | ⟨1, _⟩ => show p.val * 1 + (w 1).val - M = p.val + (w 1).val - M; omega
    · next hin =>
      refine (if_neg fun hle => hin fun a => ?_).symm
      match a with
      | ⟨0, _⟩ => show 0 ≤ r.val * 1 + (w 0).val ∧ r.val * 1 + (w 0).val - 0 < R; omega
      | ⟨1, _⟩ => show M ≤ p.val * 1 + (w 1).val ∧ p.val * 1 + (w 1).val - M < M + 1; omega
  refine Eq.trans (b := (List.finRange (⟨2, ![1, M + 1]⟩ : Shape).numel).foldl
    (fun acc n => acc + g ((⟨2, ![1, M + 1]⟩ : Shape).rowMajor.symm n)) 0) ?_ ?_
  · unfold Ideal.hostReduceWindowAdd Host.reduceWindow
    exact congrArg (fun f => (List.finRange _).foldl f 0)
      (funext fun acc => funext fun n => congrArg (acc + ·) (key _))
  · rw [foldl_window, zero_add, sum_idx2, Fin.sum_univ_one]
    show ∑ b : Fin (M + 1), (if M ≤ p.val + b.val then entry x r (p.val + b.val - M) else 0) = _
    rw [Fin.sum_univ_eq_sum_range (fun b => if M ≤ p.val + b then entry x r (p.val + b - M) else 0) (M + 1),
      ← Finset.sum_filter, before]
    refine Finset.sum_nbij' (fun b => p.val + b - M) (fun k => M + k - p.val) ?_ ?_ ?_ ?_ ?_
    all_goals intro k hk; simp only [Finset.mem_filter, Finset.mem_range] at hk ⊢
    all_goals omega

end Cert.RunningSum

end
-- ==== Proof.References.lean ====
/-
  WHAT THE TWO REFERENCES HOLD, element by element, over the extended reals. `shifted_apply`: the running sum moved one
  column to the right, with a zero in front, is the sum before each column, whatever the entries. `inclusive_sub_apply`:
  the running sum less the entry itself is that same sum where the entry is finite. `finite_entry` reads the
  precondition: an entry whose absolute value is below infinity is neither infinity.
-/
module

public import proofs.«01_k».proof.Proof.Window
public import proofs.«01_k».proof.Pre_finite
public import Idealize.ShloMosaic.Lib.ValueIdx
public import Idealize.ShloMosaic.Lib.KernelVsHost
public import Idealize.ShloMosaic.Lib.Pipeline.Value

@[expose] public section

set_option maxRecDepth 16384

noncomputable section

namespace Cert.RunningSum

open Idealize.ShloMosaic Idealize.ShloMosaic.ValueIdx

abbrev Full : Shape := ⟨2, ![4096, 8192]⟩
abbrev Cut : Shape := ⟨2, ![4096, 8191]⟩
abbrev One : Shape := ⟨0, ![]⟩

variable (x : FVec Ideal Full .f32)
  (hb : One.BroadcastsInDim One (![] : Fin 0 → Fin One.rank))
  (hw : Full.ReduceWindows (![1, 8192] : Fin 2 → Nat) ![1, 1] ![0, 8191] ![0, 0] Full) (hu : 0 < One.numel)

/-- The references' common first step, as they print it: the running sum along the rows, from zero. -/
abbrev inclusive : FVec Ideal Full .f32 :=
  Host.reduceWindowAdd ![1, 8192] ![1, 1] ![0, 8191] ![0, 0] x (broadcastInDim One ![] hb (constant One .f32 0x00000000#32)) hw hu

/-- Element `(r, p)` of the running sum is the sum of row `r` up to and including column `p`. -/
theorem inclusive_apply (r : Fin 4096) (p : Fin 8192) :
    inclusive x hb hw hu (ix2 r p) = before x r (p.val + 1) := by
  have hz : (broadcastInDim One ![] hb (constant One .f32 0x00000000#32) : FVec Ideal One .f32) (Shape.Idx.first hu) = 0 := by
    show Ideal.ofBits .f32 0x00000000#32 = 0
    simp [Ideal.ofBits, Ideal.ieee]
  unfold inclusive Host.reduceWindowAdd
  rw [Ideal.hostReduceWindowAdd_def, hz]
  exact cumsum_apply (R := 4096) (N := 8192) (M := 8191) rfl x hw r p

/-- Less the entry itself, where that is finite, it is the sum before column `p`. -/
theorem inclusive_sub_apply (r : Fin 4096) (p : Fin 8192) (hbot : x (ix2 r p) ≠ ⊥) (htop : x (ix2 r p) ≠ ⊤) :
    subf (inclusive x hb hw hu) x (ix2 r p) = before x r p.val := by
  have e : entry x r p.val = x (ix2 r p) := entry_of_lt x r p.isLt
  rw [subf_apply, inclusive_apply, ← e]
  exact before_succ_sub x r p.val (e ▸ hbot) (e ▸ htop)

/-- Moved one column to the right, with a zero in front, it is the sum before column `p`. -/
theorem shifted_apply (hs : Full.Slices ![0, 0] Cut) (hp : Cut.Pads (![0, 1] : Fin 2 → Nat) ![0, 0] ![0, 0] Full)
    (r : Fin 4096) (p : Fin 8192) :
    (pad Full ![0, 1] ![0, 0] ![0, 0] (extractStridedSlice Cut ![0, 0] (inclusive x hb hw hu) hs)
      (sitofp .f32 (constantI One 32 0#32) : FVec Ideal One .f32) hp hu : FVec Ideal Full .f32) (ix2 r p)
      = before x r p.val := by
  have hlt := p.isLt
  rcases Nat.eq_zero_or_pos p.val with h0 | hpos
  · refine (pad_apply_of_not_inside _ _ _ _ _ hp hu (ix2 r p) 1 fun h => ?_).trans ?_
    · have h1 : 1 ≤ p.val := h.1
      omega
    · rw [h0, before_zero]
      show (((0#32 : BitVec 32).toInt : ℝ) : EReal) = 0
      simp
  · refine (pad_apply_of_inside _ _ _ _ _ hp hu (ix2 r p) (ix2 r ⟨p.val - 1, by omega⟩) fun a => ?_).trans ?_
    · match a with
      | ⟨0, _⟩ => show r.val = 0 + r.val * (0 + 1); omega
      | ⟨1, _⟩ => show p.val = 1 + (p.val - 1) * (0 + 1); omega
    · refine (extractStridedSlice_apply _ _ hs _ (ix2 r ⟨p.val - 1, by omega⟩) fun a => ?_).trans ?_
      · match a with
        | ⟨0, _⟩ => show r.val = 0 + r.val; omega
        | ⟨1, _⟩ => show p.val - 1 = 0 + (p.val - 1); omega
      · rw [inclusive_apply]
        show before x r (p.val - 1 + 1) = _
        rw [Nat.sub_add_cancel hpos]

/-- Where the precondition is one, the entry is neither infinity. -/
theorem finite_entry [Cert.Pre_finite.Facts] (h : Cert.Pre_finite.fn (F := Ideal) x = fun _ => 1#1) (i : Full.Idx) :
    x i ≠ ⊥ ∧ x i ≠ ⊤ := by
  have hi : BitVec.ofBool (decide (max (x i) (-(x i)) < Ideal.ofBits .f32 0x7F800000#32)) = 1#1 := congrFun h i
  have hinf : Ideal.ofBits .f32 0x7F800000#32 = ⊤ := by simp [Ideal.ofBits, Ideal.ieee]
  rw [hinf] at hi
  have hlt : max (x i) (-(x i)) < ⊤ := by
    by_contra hn
    rw [decide_eq_false hn] at hi
    exact absurd hi (by decide)
  refine ⟨fun hx => ?_, fun hx => ?_⟩
  · rw [hx, EReal.neg_bot, max_eq_right bot_le] at hlt
    exact lt_irrefl _ hlt
  · rw [hx, max_eq_left le_top] at hlt
    exact lt_irrefl _ hlt

end Cert.RunningSum

end
-- ==== Proof.lean ====
/-
  THE CERTIFICATE. The kernel computes, for every row, the sum of the entries before each column. Each program's run is
  read at an element by the modules imported here — the kernel's by `Scan`, the references' by `References` — and both
  sides are that one sum, `Cert.RunningSum.before`.
-/
module

public import proofs.«01_k».proof.Defs
public import proofs.«01_k».proof.Proof.Scan
public import proofs.«01_k».proof.Proof.References
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ShiftedIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Idealize.ShloMosaic.ValueIdx
open Cert.RunningSum

/-- The reference `inclusive - x` terminates from any memory, its argument unchanged and no signal left. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference that shifts the running sum. -/
theorem shifted_frame : quiescent_ShiftedIdeal := fun m ρ _ =>
  (θ_run Cert.ShiftedIdeal.defs _ _).mono (fun r h => ⟨fun c => (h c).2, sem_eq_zero_of_no_sems (by decide) r.2⟩)
    (Cert.ShiftedIdeal.Value.run (F := Ideal) m ρ)

/-- On finite inputs the kernel's result is the reference `inclusive - x`, element for element. -/
theorem reference_value : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine funext fun (i : Full.Idx) => ?_
  obtain ⟨hbot, htop⟩ := finite_entry _ (hpre c) i
  rw [eq_ix2 i] at hbot htop ⊢
  exact (inclusive_sub_apply _ _ _ _ (i 0) (i 1) hbot htop).trans
    (Cert.KernelIdeal.Scan.result_apply m c (i 0) (i 1)).symm

/-- On every input the kernel's result is the shifted running sum, element for element. -/
theorem shifted_value : algebraic_KernelIdeal_ShiftedIdeal := by
  intro m ρ m' ρ' _ hagree
  refine ⟨_, Cert.KernelIdeal.Value.run (F := Ideal) m ρ, ?_⟩
  refine (θ_run Cert.ShiftedIdeal.defs _ _).mono (fun _ h c => ⟨?_, (h c).2⟩) (Cert.ShiftedIdeal.Value.run (F := Ideal) m' ρ')
  rw [(h c).1]
  simp only [hagree c]
  refine funext fun (i : Full.Idx) => ?_
  rw [eq_ix2 i]
  exact (shifted_apply _ _ _ _ _ _ (i 0) (i 1)).trans
    (Cert.KernelIdeal.Scan.result_apply m c (i 0) (i 1)).symm

/-- Everything claimed: the programs run and end clean, the idealized kernel is the kernel's, and its result is both
    references' — the first on finite inputs, the second on all. -/
theorem claim : Cert.Claim :=
  ⟨Cert.Kernel.Gen.facts, Cert.KernelIdeal.Gen.facts, Cert.ReferenceIdeal.Gen.facts, Cert.ShiftedIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    shifted_frame,
    (trivial : preserves_Kernel_KernelIdeal),
    reference_value,
    shifted_value⟩

end Cert.Proof

end
